-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S_ : Shape := ⟨0, ![]⟩
abbrev S100000x128 : Shape := ⟨2, ![100000, 128]⟩

class Facts : Prop where

variable [Facts]

def fn {F : FTy → Type} [FloatOps F] (main_arg0 : IVec S_ 32) (main_arg1 : FVec F S100000x128 .f32) : IVec S_ 1 :=
  let main_c : IVec S_ 32 := constantI S_ 32 0#32
  let main_v0 : IVec S_ 1 := cmpi .sge main_arg0 main_c
  let main_c_0 : IVec S_ 32 := constantI S_ 32 100000#32
  let main_v1 : IVec S_ 1 := cmpi .slt main_arg0 main_c_0
  let main_v2 : IVec S_ 1 := andi main_v0 main_v1
  main_v2
-- ==== Kernel.lean ====
abbrev S_ : Shape := ⟨0, ![]⟩
abbrev S100000x128 : Shape := ⟨2, ![100000, 128]⟩
abbrev S1 : Shape := ⟨1, ![1]⟩
abbrev S1x128 : Shape := ⟨2, ![1, 128]⟩
abbrev S8x128 : Shape := ⟨2, ![8, 128]⟩

abbrev nBuf : Space → Nat
  | .hbm => 3
  | .vmem => 2
  | .smem => 1
  | _ => 0

abbrev bufTy : (tb : Table) → Fin (tcTables nBuf tb) → BufTy
  | .hbm, ⟨0, _⟩ => ⟨S_, .i32⟩
  | .hbm, ⟨1, _⟩ => ⟨S100000x128, .f32⟩
  | .hbm, ⟨2, _⟩ => ⟨S1x128, .f32⟩
  | .local _ .vmem, ⟨0, _⟩ => ⟨S8x128, .f32⟩
  | .local _ .vmem, ⟨1, _⟩ => ⟨S1x128, .f32⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi v0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v11 : Index := Scalar.indexCast v10
  let c0_3 : Index := 0#32
  ![v11.toNat, 0]

def k0_chk1 (v0 : BitVec 32) : Prop :=
  (∀ a, (k0_off1 v0) a + S1x128.size a ≤ S8x128.size a)
theorem k0_off1_inb : ∀ (v0 : BitVec 32) (k0_hw1 : k0_chk1 v0), ∀ a, (k0_off1 v0) a + S1x128.size a ≤ S8x128.size a := fun v0 k0_hw1 => k0_hw1

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference.lean ====
abbrev S_ : Shape := ⟨0, ![]⟩
abbrev S100000x128 : Shape := ⟨2, ![100000, 128]⟩
abbrev S1 : Shape := ⟨1, ![1]⟩
abbrev S1x1 : Shape := ⟨2, ![1, 1]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S_, .i32⟩
  | .hbm, ⟨1, _⟩ => ⟨S100000x128, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x128, .f32⟩
  | .hbm, ⟨21, _⟩ => ⟨S1x128, .i1⟩
  | .hbm, ⟨22, _⟩ => ⟨S_, .f32⟩
  | .hbm, ⟨23, _⟩ => ⟨S1x128, .f32⟩
  | .hbm, ⟨24, _⟩ => ⟨S1x128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩

abbrev nD : Nat := 1
abbrev τ : Topo := Topo.v7x

variable {F : FTy → Type} [FloatOps F]
-- ==== Proof.Words.lean ====
/- The kernel splits the row number it is given into a quotient and a remainder by eight, in the sign-correcting form in
   which jax prints `//` and `%` of a signed word. Of a word that holds a small natural number the corrections do
   nothing: the block index is the natural quotient and the row inside the block is the natural remainder. -/
module

public import proofs.«01_k».proof.Proof.Gen.KernelIdeal.Frame
public import Idealize.ShloMosaic.Lib.Routing.Words

@[expose] public section

namespace Cert.Lookup

open Cert.KernelIdeal Cert.KernelIdeal.Gen
open Idealize.ShloMosaic Idealize.ShloMosaic.TcCoe

variable {F : FTy → Type} [FloatOps F]

/-- The row inside the eight-row block, of the word that holds `n`. -/
theorem off_of_nat {n : Nat} (h : n < 2 ^ 31) : k0_off1 (BitVec.ofNat 32 n) = ![n % 8, 0] := by
  have hr : Scalar.remsi (BitVec.ofNat 32 n) 8#32 = BitVec.ofNat 32 (n % 8) := Routing.remsi_word _ h (by decide) (by decide)
  have hs : BitVec.slt (BitVec.ofNat 32 (n % 8)) 0#32 = false :=
    (Routing.slt_ofNat32 (a := n % 8) (b := 0) (by omega) (by decide)).trans (by simp)
  have h8 : Scalar.select (Scalar.cmpi .eq 8#32 0#32) 1#32 8#32 = 8#32 := by decide
  have h8s : Scalar.cmpi .slt 8#32 0#32 = 0#1 := by decide
  have hc : Scalar.cmpi .slt (BitVec.ofNat 32 (n % 8)) 0#32 = 0#1 := by
    show BitVec.ofBool (BitVec.slt _ _) = _; rw [hs]; rfl
  have hx (b : BitVec 1) : Scalar.andi (Scalar.xori 0#1 0#1) b = 0#1 := by revert b; decide
  have hz (a b : BitVec 32) : Scalar.select 0#1 a b = b := rfl
  unfold k0_off1
  simp only [h8, hr, h8s, hc, hx, hz]
  have : (Scalar.indexCast (BitVec.ofNat 32 (n % 8))).toNat = n % 8 := by
    show (BitVec.ofNat 32 (n % 8)).toNat = _
    simp only [BitVec.toNat_ofNat]; omega
  rw [this]

/-- The block of eight rows that holds row `n`: the index map at a table whose one word holds `n`. -/
theorem block_of_nat (pf : pre0.Contents (Elt F)) (i : grid0.Coords) {n : Nat} (h : n < 2 ^ 31)
    (hw : pf.at 0 (Rect.unit (s := S1) ![0] S1.size inb_S1_S1_0) numel1_S1 = BitVec.ofNat 32 n) :
    cc0_transform_0 inb_S1_S1_0 numel1_S1 pf i = ![n / 8, 0] := by
  have hq : Scalar.divsi (BitVec.ofNat 32 n) 8#32 = BitVec.ofNat 32 (n / 8) := Routing.divsi_word _ h (by decide) (by decide)
  have hr : Scalar.remsi (BitVec.ofNat 32 n) 8#32 = BitVec.ofNat 32 (n % 8) := Routing.remsi_word _ h (by decide) (by decide)
  have hneg : Scalar.cmpi .slt (BitVec.ofNat 32 n) 0#32 = 0#1 := by
    show BitVec.ofBool (BitVec.slt _ _) = _
    rw [show BitVec.slt (BitVec.ofNat 32 n) 0#32 = false from
      (Routing.slt_ofNat32 (a := n) (b := 0) h (by decide)).trans (by simp)]; rfl
  have hpos : Scalar.cmpi .sgt (BitVec.ofNat 32 n) 0#32 = BitVec.ofBool (decide (0 < n)) := by
    show BitVec.ofBool (BitVec.slt _ _) = _
    rw [show BitVec.slt 0#32 (BitVec.ofNat 32 n) = decide (0 < n) from
      Routing.slt_ofNat32 (a := 0) (b := n) (by decide) h]
  -- the correction is taken where the signs differ and the remainder is not zero: at zero the remainder is zero
  have hcorr : Scalar.andi (Scalar.cmpi .ne
      (Scalar.subi (Scalar.extui (BitVec.ofBool (decide (0 < n)))) (Scalar.extui 0#1))
      (Scalar.subi (Scalar.extui (Scalar.cmpi .sgt 8#32 0#32)) (Scalar.extui (Scalar.cmpi .slt 8#32 0#32))))
      (Scalar.cmpi .ne (BitVec.ofNat 32 (n % 8)) 0#32) = 0#1 := by
    rcases Nat.eq_zero_or_pos n with rfl | hp
    · decide
    · rw [decide_eq_true hp]
      generalize Scalar.cmpi .ne (BitVec.ofNat 32 (n % 8)) 0#32 = b
      revert b; decide
  have hz (a b : BitVec 32) : Scalar.select 0#1 a b = b := rfl
  unfold cc0_transform_0
  simp only [hw, hq, hr, hneg, hpos]
  rw [hcorr, hz]
  have : (BitVec.ofNat 32 (n / 8)).toNat = n / 8 := by
    simp only [BitVec.toNat_ofNat]; omega
  rw [this]; rfl

end Cert.Lookup
-- ==== Proof.Number.lean ====
/- The row number: the precondition bounds it, the prefetched table of one word holds it, and so the side conditions of
   the run hold — the block of eight rows is inside the table, the row is inside the block. -/
module

public import proofs.«01_k».proof.Proof.Words
public import proofs.«01_k».proof.Proof.Gen.Pre_in_range
public import Idealize.ShloMosaic.Lib.StableHlo.Run

@[expose] public section

namespace Cert.Lookup

open Cert.KernelIdeal Cert.KernelIdeal.Gen
open Idealize.ShloMosaic Idealize.ShloMosaic.TcCoe Idealize.ShloMosaic.StableHlo

variable {F : FTy → Type} [FloatOps F]

/-- A word that the precondition admits, read as a natural number, is below the number of rows. -/
theorem lt_of_in_range (x : IVec S_ 32) (tab : FVec F S100000x128 .f32)
    (h : Cert.Pre_in_range.fn (F := F) x tab = fun _ => 1#1) (i : S_.Idx) : (x i).toNat < 100000 := by
  have e : IntOp.andi (BitVec.ofBool (BitVec.sle 0#32 (x i))) (BitVec.ofBool (BitVec.slt (x i) 100000#32)) = 1#1 := congrFun h i
  have split : ∀ p q : Bool, IntOp.andi (BitVec.ofBool p) (BitVec.ofBool q) = 1#1 → p = true ∧ q = true := by decide
  obtain ⟨lo, hi⟩ := split _ _ e
  simp only [BitVec.sle, BitVec.slt, decide_eq_true_eq, BitVec.toInt, BitVec.toNat_ofNat] at lo hi
  omega

variable (m : (ℓ : Loc nD τ sig) → Buf (Elt F) ℓ)

/-- The row number on the one device. -/
abbrev node : Nat := (m (((0 : Dev nD).tc : Thread nD τ).loc main_arg0) (fun a => a.elim0)).toNat

/-- The precondition, of a launch memory at any instance. -/
abbrev Admitted : Prop := ∀ c : Dev nD,
  Cert.Pre_in_range.fn (F := F) (m ((c.tc : Thread nD τ).loc main_arg0)) (m ((c.tc : Thread nD τ).loc main_arg1)) = fun _ => 1#1

variable {m}

theorem node_lt (h : Admitted m) : node m < 100000 := lt_of_in_range _ _ (h 0) _

/-- The table of one word, prefetched, holds the row number at its only place. -/
theorem tbl_word (y : S1.Idx) : tbl m 0 y = BitVec.ofNat 32 (node m) := by
  have e : tbl m 0 = shapeCast S1 (m (((0 : Dev nD).tc : Thread nD τ).loc main_arg0)) shapeCasts_S_S1 := by
    unfold tbl V
    after_results
    rfl
  rw [e, BitVec.ofNat_toNat, BitVec.setWidth_eq]
  exact congrArg (m (((0 : Dev nD).tc : Thread nD τ).loc main_arg0)) (funext fun a => Fin.elim0 a)

/-- The same word as the index map reads it. -/
theorem at_word : (tbl m).at 0 (Rect.unit (s := S1) ![0] S1.size inb_S1_S1_0) numel1_S1 = BitVec.ofNat 32 (node m) :=
  tbl_word _

/-- The block of eight rows holding an admitted row is inside the table. -/
theorem ok (h : Admitted m) : Ok m := fun i => by
  have hn := node_lt h
  refine ⟨fun a => ?_, .inl rfl⟩
  rw [block_of_nat (tbl m) i (by omega) at_word]
  match a with
  | ⟨0, _⟩ => show (node m / 8 + 1) * 8 ≤ 100000; omega
  | ⟨1, _⟩ => show (0 + 1) * 128 ≤ 128; omega

/-- A row's place in its block of eight is inside the block. -/
theorem chk_of_nat {n : Nat} (h : n < 2 ^ 31) : k0_chk1 (BitVec.ofNat 32 n) := fun a => by
  rw [off_of_nat h]
  match a with
  | ⟨0, _⟩ => show n % 8 + 1 ≤ 8; omega
  | ⟨1, _⟩ => show 0 + 128 ≤ 128; omega

/-- The same word as the body reads it. -/
theorem read_word (y) : tbM0_0.view.readAt (Elt F) (Rect.unit (s := S1) ![0] S1.size inb_S1_S1_0).toLoadRect (tbl m 0) y
    = BitVec.ofNat 32 (node m) :=
  tbl_word (m := m) ((Rect.unit (s := S1) ![0] S1.size inb_S1_S1_0).emb y)

theorem hyps (h : Admitted m) (hO : Ok m) : Hyps m hO := .of fun c t => by
  have hn := node_lt h
  unfold Hyps.p0
  rw [read_word]
  exact chk_of_nat (by omega)

end Cert.Lookup
-- ==== Proof.Row.lean ====
/- What the kernel leaves in its result: the row of the table whose number it was given, at any instance of the floats. -/
module

public import proofs.«01_k».proof.Proof.Number
public import Idealize.ShloMosaic.Lib.Pipeline.ValueKit

@[expose] public section

noncomputable section

namespace Cert.Lookup

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Row `n` of a table, as an array of one row; a number past the last row stands for the last one. -/
def rowOf (tab : FVec F S100000x128 .f32) (n : Nat) : FVec F S1x128 .f32 := fun y =>
  tab (ValueIdx.ix2 ⟨min n 99999, by omega⟩ ⟨(y 1).val, (y 1).isLt⟩)

variable {m}

/-- The word of the prefetched table that the body loads. -/
abbrev loaded (m : (ℓ : Loc nD τ sig) → Buf (Elt F) ℓ) : BitVec 32 :=
  tbM0_0.view.readAt (Elt F) (Rect.unit (s := S1) ![0] S1.size inb_S1_S1_0).toLoadRect (tbl m 0) (Shape.Idx.first (numel1_S1.symm ▸ Nat.one_pos))

/-- The body on any staging buffers and any block: the result's buffer ends with the one row of the block that the
    loaded word names. -/
theorem out_apply (i : grid0.Coords) (arg2 : Memref sig .tc .vmem S8x128 .f32) (harg2 : arg2.IsWhole)
    (arg3 : Memref sig .tc .vmem S1x128 .f32) (harg3 : arg3.IsWhole) (x0 : Vec F S8x128 .f32) (hw : k0_chk1 (loaded m)) (y : S1x128.Idx) :
    out0_A_1 0 i arg2 harg2 arg3 harg3 x0 (tbl m 0) hw y
      = x0 ((Rect.unit (s := S8x128) (k0_off1 (loaded m)) S1x128.size (k0_off1_inb _ hw)).emb y) := by
  frame_out
  rfl

/-- The block of the table staged for the body, at an entry: the entry of the table eight times the block's number of rows
    further down. -/
theorem block_apply (h : Admitted m) (hO : Ok m) (t : Fin (cfgM m hO).N) (z : S8x128.Idx) (j : S100000x128.Idx)
    (h0 : (j 0).val = node m / 8 * 8 + (z 0).val) (h1 : (j 1).val = (z 1).val) :
    iblk m hO 0 0 t z = m (((0 : Dev nD).tc : Thread nD τ).loc main_arg1) j := by
  have hn := node_lt h
  have e0 : ((cfgM m hO).win 0).index t = ![node m / 8, 0] := block_of_nat (tbl m) (grid0.coords t) (by omega) at_word
  show V m 0 main_arg1 ((((cfgM m hO).win 0).rect t).emb z) = _
  rw [V_main_arg1]
  have at_axis (a) := (((cfgM m hO).win 0).rect_emb_val t z a).trans
    (congrArg (fun k => k a * ((cfgM m hO).win 0).size a + (z a).val) e0)
  refine congrArg (m (((0 : Dev nD).tc : Thread nD τ).loc main_arg1)) (funext fun a => Fin.ext ?_)
  refine (at_axis a).trans ?_
  match a with
  | ⟨0, _⟩ => exact h0.symm
  | ⟨1, _⟩ => show 0 * 128 + (z 1).val = (j 1).val; omega

/-- The body leaves, in the result's staging buffer, the row of the table whose number it was given. -/
theorem outs_apply (h : Admitted m) (hO : Ok m) (hH : Hyps m hO) (t : Fin (cfgM m hO).N) (y : S1x128.Idx) :
    outsAt0 m hO hH 0 t y = rowOf (m (((0 : Dev nD).tc : Thread nD τ).loc main_arg1)) (node m) y := by
  have hn := node_lt h
  have e1 : k0_off1 (loaded m) = ![node m % 8, 0] := (congrArg k0_off1 (read_word (m := m) _)).trans (off_of_nat (by omega))
  have hy : (y 0).val = 0 := by have : (y 0).val < 1 := (y 0).isLt; omega
  unfold outsAt0
  refine (out_apply (m := m) _ _ _ _ _ _ _ y).trans (block_apply h hO t _ _ ?_ ?_)
  · show min (node m) 99999 = node m / 8 * 8 + (k0_off1 (loaded m) 0 + 1 * (y 0).val)
    rw [e1, hy]
    show min (node m) 99999 = node m / 8 * 8 + (node m % 8 + 1 * 0)
    omega
  · show (y 1).val = k0_off1 (loaded m) 1 + 1 * (y 1).val
    rw [e1]
    show (y 1).val = 0 + 1 * (y 1).val
    omega

/-- The result's array after the run. -/
theorem final (h : Admitted m) (hO : Ok m) (hH : Hyps m hO) :
    (dats m hO hH 0 0).arrAt 1 (cfgM m hO).N = rowOf (m (((0 : Dev nD).tc : Thread nD τ).loc main_arg1)) (node m) := by
  refine (dats m hO hH 0 0).arrAt_eq_of_after_last 1 t0_0 ⟨flush0_1 (adm m hO) t0_0, fun t _ => fin_N0 t, ?_⟩ _ fun j => ?_
  · exact (by decide +kernel : ∀ a : Fin 2, cc0_transform_1 (grid0.coords t0_0) a = 0 ∧ S1x128.size a = S1x128.size a)
  · exact (congrFun (after0_1 m hO hH 0 t0_0) _).trans (outs_apply h hO hH t0_0 _)

variable (m) in
/-- The run of the kernel at any instance: the result ends as the row, the arguments as they were, every semaphore counter
    at zero. Every claim about the kernel reads this. -/
theorem run_main (ρ : Dev nD → PrngReg) (h : Admitted m) :
    θ_run defs (onTc (τ := τ) (main (F := F))) ⟨m, fun _ => 0, ρ⟩ (fun r =>
      (∀ c : Dev nD, r.2.mem ((c.tc : Thread nD τ).loc main_v1) = rowOf (m (((0 : Dev nD).tc : Thread nD τ).loc main_arg1)) (node m)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono
    (fun r hr => ⟨fun c => ⟨by
      obtain rfl : c = 0 := Subsingleton.elim _ _
      exact ((hr.1.1 0).1 1).trans (final h (ok h) (hyps h (ok h))), hr.2.1 c⟩, hr.2.2⟩)
    (θ_run_and (run_main_quiescent m ρ (ok h) (hyps h (ok h))) (frame m ρ (ok h) (hyps h (ok h))))

variable (m) in
/-- The same run without the result: what the frame claims state. -/
theorem frame_main (ρ : Dev nD → PrngReg) (h : Admitted m) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun _ hr => ⟨fun c => (hr.1 c).2, hr.2⟩) (run_main m ρ h)

variable (m) in
/-- The same run with the result and the arguments: what the value claims state. -/
theorem value_main (ρ : Dev nD → PrngReg) (h : Admitted m) :
    θ_run defs (onTc (τ := τ) (main (F := F))) ⟨m, fun _ => 0, ρ⟩ (fun r =>
      ∀ c : Dev nD, r.2.mem ((c.tc : Thread nD τ).loc main_v1) = (fun _ => rowOf (m (((0 : Dev nD).tc : Thread nD τ).loc main_arg1)) (node m) :
          (c : Dev nD) → Buf (Elt F) ((c.tc : Thread nD τ).loc main_v1)) c
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ hr => hr.1) (run_main m ρ h)

end Cert.Lookup
-- ==== Proof.Taken.lean ====
/- What the reference computes. jax prints `take` along the rows as: a negative number counted from the end, a gather at
   the number clamped into the table, and the rows whose number was outside replaced by NaN. Of a number inside the table
   all of this is the row of that number, at any instance of the floats. -/
module

public import proofs.«01_k».proof.Proof.Row
public import proofs.«01_k».proof.Proof.Gen.ReferenceIdeal
public import Idealize.ShloMosaic.Lib.Routing.Ops

@[expose] public section

noncomputable section

namespace Cert.Lookup

open Cert.ReferenceIdeal Cert.ReferenceIdeal.Gen
open Idealize.ShloMosaic

variable {F : FTy → Type} [FloatOps F]

/-- A conjunction over any positions, of ones from one, is one. -/
theorem reduce_ones (x : IVec S1x1 1) (hx : ∀ i, x i = 1#1) (j : S1.Idx) :
    Host.reduce IntOp.andi x (constantI S_ 1 1#1) reducesTo_S1x1_S1_d1 h_S_ j = 1#1 := by
  have go : ∀ l : List (Fin S1x1.numel), l.foldl (fun r n => IntOp.andi r (x (S1x1.rowMajor.symm n))) 1#1 = 1#1 := fun l => by
    induction l with
    | nil => rfl
    | cons n l ih => rw [List.foldl_cons, hx]; exact ih
  exact go _

/-- The number after the negative ones were counted from the end: a number inside the table is as it was. -/
theorem counted (x : IVec S_ 32) (n : Nat) (hx : x (fun a => Fin.elim0 a) = BitVec.ofNat 32 n) (hn : n < 100000) (i : S1x1.Idx) :
    broadcastInDim S1x1 ![0] bcast_S1_S1x1_0
      (select (cmpi .slt (broadcastInDim S1 ![] bcast_S_S1 x) (broadcastInDim S1 ![] bcast_S_S1 (constantI S_ 32 0#32)))
        (addi (broadcastInDim S1 ![] bcast_S_S1 x) (broadcastInDim S1 ![] bcast_S_S1 (constantI S_ 32 100000#32)))
        (broadcastInDim S1 ![] bcast_S_S1 x)) i = BitVec.ofNat 32 n := by
  have hb (k : S1.Idx) : broadcastInDim S1 ![] bcast_S_S1 x k = BitVec.ofNat 32 n :=
    (congrArg x (funext fun a => Fin.elim0 a)).trans hx
  have hneg : IntOp.cmpi .slt (BitVec.ofNat 32 n) 0#32 = 0#1 := by
    show BitVec.ofBool (BitVec.slt _ _) = _
    rw [show BitVec.slt (BitVec.ofNat 32 n) 0#32 = false from
      (Routing.slt_ofNat32 (a := n) (b := 0) (by omega) (by decide)).trans (by simp)]; rfl
  show (if IntOp.cmpi .slt (broadcastInDim S1 ![] bcast_S_S1 x _) 0#32 = 1#1 then _ else broadcastInDim S1 ![] bcast_S_S1 x _) = _
  rw [hb, hneg, if_neg (by decide)]

/-- The gather with its guard, at an index array that holds a number inside the table. -/
theorem guarded (tab : FVec F S100000x128 .f32) (fill : FVec F S1x128 .f32) (idx : IVec S1x1 32) (n : Nat) (hn : n < 100000)
    (hi : ∀ i, idx i = BitVec.ofNat 32 n) :
    select (broadcastInDim S1x128 ![0] bcast_S1_S1x128_0
        (Host.reduce IntOp.andi
          (andi (cmpi .sge idx (broadcastInDim S1x1 ![] bcast_S_S1x1 (constantI S_ 32 0#32)))
            (cmpi .sle idx (broadcastInDim S1x1 ![1] bcast_S1_S1x1_1 (constantI S1 32 99999#32))))
          (constantI S_ 1 1#1) reducesTo_S1x1_S1_d1 h_S_))
      (Host.gather gather_S100000x128_S1x1_S1x128_1_0_n_n_0_1_1128 tab idx) fill = rowOf tab n := by
  have inside : IntOp.andi (IntOp.cmpi .sge (BitVec.ofNat 32 n) 0#32) (IntOp.cmpi .sle (BitVec.ofNat 32 n) 99999#32) = 1#1 := by
    show IntOp.andi (BitVec.ofBool (BitVec.sle _ _)) (BitVec.ofBool (BitVec.sle _ _)) = _
    rw [show BitVec.sle 0#32 (BitVec.ofNat 32 n) = true from
        (Routing.sle_ofNat32 (a := 0) (b := n) (by decide) (by omega)).trans (by simp),
      show BitVec.sle (BitVec.ofNat 32 n) 99999#32 = true from
        (Routing.sle_ofNat32 (a := n) (b := 99999) (by omega) (by decide)).trans (decide_eq_true (by omega))]
    rfl
  have ones (k : S1.Idx) := reduce_ones
    (andi (cmpi .sge idx (broadcastInDim S1x1 ![] bcast_S_S1x1 (constantI S_ 32 0#32)))
      (cmpi .sle idx (broadcastInDim S1x1 ![1] bcast_S1_S1x1_1 (constantI S1 32 99999#32))))
    (fun i => by
      show IntOp.andi (IntOp.cmpi .sge (idx i) 0#32) (IntOp.cmpi .sle (idx i) 99999#32) = 1#1
      rw [hi]; exact inside) k
  funext y
  refine (if_pos (ones _)).trans ?_
  have hy : y = ValueIdx.ix2 (0 : Fin 1) (⟨(y 1).val, (y 1).isLt⟩ : Fin 128) := funext fun a => by
    match a with
    | ⟨0, _⟩ => exact Fin.ext (by have : (y 0).val < 1 := (y 0).isLt; show (y 0).val = 0; omega)
    | ⟨1, _⟩ => rfl
  refine (congrArg (Host.gather _ tab idx) hy).trans ?_
  refine (Routing.gather_row (nb := 100000) (B := 128) (n := 1) _ rfl rfl rfl rfl rfl tab idx 0 ⟨(y 1).val, (y 1).isLt⟩ ⟨n, hn⟩
    (hi _) (by decide)).trans ?_
  refine congrArg tab (funext fun a => ?_)
  match a with
  | ⟨0, _⟩ => exact Fin.ext (by show n = min n 99999; omega)
  | ⟨1, _⟩ => rfl

/-- The row of the table whose number the argument holds, where the number is inside the table: the form in which the
    reference's run states its result, for the two claims that compare it with the kernel's. -/
theorem taken (x : IVec S_ 32) (tab : FVec F S100000x128 .f32) (fill : FVec F S1x128 .f32) (n : Nat)
    (hx : x (fun a => Fin.elim0 a) = BitVec.ofNat 32 n) (hn : n < 100000) (idx : IVec S1x1 32)
    (hidx : idx = broadcastInDim S1x1 ![0] bcast_S1_S1x1_0
      (select (cmpi .slt (broadcastInDim S1 ![] bcast_S_S1 x) (broadcastInDim S1 ![] bcast_S_S1 (constantI S_ 32 0#32)))
        (addi (broadcastInDim S1 ![] bcast_S_S1 x) (broadcastInDim S1 ![] bcast_S_S1 (constantI S_ 32 100000#32)))
        (broadcastInDim S1 ![] bcast_S_S1 x))) :
    select (broadcastInDim S1x128 ![0] bcast_S1_S1x128_0
        (Host.reduce IntOp.andi
          (andi (cmpi .sge idx (broadcastInDim S1x1 ![] bcast_S_S1x1 (constantI S_ 32 0#32)))
            (cmpi .sle idx (broadcastInDim S1x1 ![1] bcast_S1_S1x1_1 (constantI S1 32 99999#32))))
          (constantI S_ 1 1#1) reducesTo_S1x1_S1_d1 h_S_))
      (Host.gather gather_S100000x128_S1x1_S1x128_1_0_n_n_0_1_1128 tab idx) fill = rowOf tab n := by
  subst hidx
  exact guarded tab fill _ n hn (counted x n hx hn)

end Cert.Lookup
-- ==== Proof.Same.lean ====
/- The kernel as it runs and the kernel as it is read at the extended reals are one text: no operation was replaced. So a
   run proved of the second, at every instance of the floats, is a run of the first. -/
module

public import proofs.«01_k».proof.Proof.Gen.KernelIdeal
public import proofs.«01_k».proof.Proof.Gen.Kernel

@[expose] public section

namespace Cert.Lookup

open Idealize.ShloMosaic Idealize.SL.Sem

variable {F : FTy → Type} [FloatOps F]

/-- The two body tables, label by label: there is one label. -/
theorem bodies_eq : Cert.Kernel.defs₀ (F := F) = Cert.KernelIdeal.defs₀ (F := F) :=
  congrArg Defs.onTc (funext fun l => match l with | 0 => rfl)

theorem defs_eq : Cert.Kernel.defs (F := F) = Cert.KernelIdeal.defs (F := F) :=
  congrArg (Pipeline.defs Cert.Kernel.pcfgs) bodies_eq

/-- A run of the one text is a run of the other. -/
theorem run_of_same (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq]
  exact h

end Cert.Lookup
-- ==== Proof.lean ====
/- The claims of the certificate, each read off the run of its program: the kernel's (Proof/Row.lean, once for both
   instances of the floats) and the reference's. Proof/Words.lean: the kernel's division of the row number by eight, on
   words. Proof/Number.lean: what the precondition gives of that number. Proof/Taken.lean: the reference's value. Proof/Same.lean: the two readings of the kernel are one text. -/
module

public import proofs.«01_k».proof.Defs
public import proofs.«01_k».proof.Proof.Row
public import proofs.«01_k».proof.Proof.Taken
public import proofs.«01_k».proof.Proof.Same
public import proofs.«01_k».proof.Proof.Gen.Kernel
public import proofs.«01_k».proof.Proof.Gen.Reference
public import proofs.«01_k».proof.Proof.Gen.ReferenceIdeal.Run
public import proofs.«01_k».proof.Proof.Gen.Reference.Run
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem Cert.Lookup

/-- The kernel, of an admitted row number, ends without fault, with its arguments as they were and every counter at zero. -/
theorem frame_kernel : Cert.quiescent_Kernel := fun m ρ h => run_of_same _ _ (frame_main (F := Bits) m ρ h)

/-- The same of the kernel over the extended reals. -/
theorem frame_kernel_ideal : Cert.quiescent_KernelIdeal := fun m ρ h => frame_main m ρ h

/-- The reference declares no semaphore, so every counter is zero in any of its states. -/
theorem frame_reference_ideal : Cert.quiescent_ReferenceIdeal := fun m ρ _ =>
  (θ_run Cert.ReferenceIdeal.defs _ _).mono
    (fun r hr => ⟨fun c => (hr c).2, sem_eq_zero_of_no_sems (by decide) r.2⟩) (Cert.ReferenceIdeal.Value.run m ρ)

/-- The same of the reference on floats as bits: it too declares no semaphore. -/
theorem frame_reference : Cert.quiescent_Reference := fun m ρ _ =>
  (θ_run Cert.Reference.defs _ _).mono
    (fun r hr => ⟨fun c => (hr c).2, sem_eq_zero_of_no_sems (by decide) r.2⟩) (Cert.Reference.Value.run m ρ)

/-- Over the extended reals kernel and reference return the same row of the table. -/
theorem value_ideal : Cert.algebraic_KernelIdeal_ReferenceIdeal := fun m ρ m' ρ' h agree => by
  refine ⟨_, value_main m ρ h,
    (θ_run Cert.ReferenceIdeal.defs _ _).mono (fun _ hr c => ⟨(hr c).1.trans ?_, (hr c).2⟩) (Cert.ReferenceIdeal.Value.run m' ρ')⟩
  obtain rfl : c = 0 := Subsingleton.elim _ _
  rw [(agree 0).1, (agree 0).2]
  exact taken (F := Ideal) (m (((0 : Dev Cert.KernelIdeal.nD).tc : Thread Cert.KernelIdeal.nD Cert.KernelIdeal.τ).loc Cert.KernelIdeal.main_arg0)) (m (((0 : Dev Cert.KernelIdeal.nD).tc : Thread Cert.KernelIdeal.nD Cert.KernelIdeal.τ).loc Cert.KernelIdeal.main_arg1)) _ _
    ((BitVec.ofNat_toNat 32 _).trans (BitVec.setWidth_eq _)).symm (node_lt (m := m) h) _ rfl

/-- Kernel and reference return the same bits. -/
theorem value_bits : Cert.bitexact_Kernel_Reference := fun m ρ m' ρ' h agree => by
  refine ⟨_, run_of_same _ _ (value_main (F := Bits) m ρ h),
    (θ_run Cert.Reference.defs _ _).mono (fun _ hr c => ⟨(hr c).1.trans ?_, (hr c).2⟩) (Cert.Reference.Value.run m' ρ')⟩
  obtain rfl : c = 0 := Subsingleton.elim _ _
  rw [(agree 0).1, (agree 0).2]
  exact taken (F := Bits) (m (((0 : Dev Cert.Kernel.nD).tc : Thread Cert.Kernel.nD Cert.Kernel.τ).loc Cert.Kernel.main_arg0)) (m (((0 : Dev Cert.Kernel.nD).tc : Thread Cert.Kernel.nD Cert.Kernel.τ).loc Cert.Kernel.main_arg1)) _ _
    ((BitVec.ofNat_toNat 32 _).trans (BitVec.setWidth_eq _)).symm (node_lt (F := Bits) (m := m) h) _ rfl

/-- All the claims of the certificate. -/
theorem claim : Cert.Claim :=
  ⟨Cert.Kernel.Gen.facts, Cert.KernelIdeal.Gen.facts, Cert.ReferenceIdeal.Gen.facts, Cert.Reference.Gen.facts, Cert.Pre_in_range.Gen.facts,
    frame_kernel, frame_kernel_ideal, frame_reference_ideal, fun m ρ _ => frame_reference_ideal m ρ trivial, frame_reference,
    trivial, value_ideal, value_bits⟩

end Cert.Proof

end
